-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S4096x1024 : Shape := ⟨2, ![4096, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | .local _ .vmem, ⟨4, _⟩ => ⟨S4x256x1024, .f32⟩
  | .local _ .vmem, ⟨5, _⟩ => ⟨S4x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x4096x1024 : Shape := ⟨3, ![4, 4096, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.BlockSum.lean ====
/-
  What the kernel's result array holds after the run: at (batch b, position l, feature d), the input at (b, l, d) plus
  the position table at (l, d). The kernel walks 16 blocks of 256 positions; each block holds every batch entry.
-/
module

public import proofs.«01_k».proof.Proof.Gen.KernelIdeal.Value
public import Idealize.ShloMosaic.Lib.Pipeline.Value
public import Idealize.ShloMosaic.Lib.ValueIdxCore

@[expose] public section

noncomputable section

open Idealize.ShloMosaic Idealize.ShloMosaic.TcCoe Idealize.SL.Sem Idealize.ShloMosaic.ValueIdx
open Idealize.ShloMosaic.Pipeline (Dat)

namespace Cert.KernelIdeal.BlockSum

open Cert.KernelIdeal Cert.KernelIdeal.Gen

variable {F : FTy → Type} [FloatOps F]
variable (m : (ℓ : Loc nD τ sig) → Buf (Elt F) ℓ) (ρ : Dev nD → PrngReg)

/-- The input plus the position embedding of its position, the same for every batch entry. -/
def withPos (x : Vec F S4x4096x1024 .f32) (p : Vec F S4096x1024 .f32) : Vec F S4x4096x1024 .f32 :=
  fun i => FloatOps.addf (x i) (p (ix2 (i 1) (i 2)))

/-- `withPos` of the two argument arrays of device `c`. -/
abbrev total (c : Dev nD) : Buf (Elt F) ((c : Thread nD τ).loc main_v0) :=
  withPos (m ((c : Thread nD τ).loc main_arg0)) (m ((c : Thread nD τ).loc main_arg1))

/-- Where the blocks of point `t` start: all three windows are at position `256 * t`, and at zero on the other axes. -/
theorem starts (t : Fin cfg0.N) :
    (win0_0.index t 0 = 0 ∧ win0_0.index t 1 = t.val ∧ win0_0.index t 2 = 0)
      ∧ (win0_1.index t 0 = t.val ∧ win0_1.index t 1 = 0)
      ∧ (win0_2.index t 0 = 0 ∧ win0_2.index t 1 = t.val ∧ win0_2.index t 2 = 0) := by
  revert t
  exact (by decide +kernel : ∀ t : Fin grid0.N,
    (win0_0.index t 0 = 0 ∧ win0_0.index t 1 = t.val ∧ win0_0.index t 2 = 0)
      ∧ (win0_1.index t 0 = t.val ∧ win0_1.index t 1 = 0)
      ∧ (win0_2.index t 0 = 0 ∧ win0_2.index t 1 = t.val ∧ win0_2.index t 2 = 0))

/-- What point `t` writes back is block `t` of `total`. -/
theorem flushed_total (c : Dev nD) (t : Fin cfg0.N) :
    (dats m 0 c).flushed 2 t = ((cfg0.win 2).blk t).view.read (Elt F) (total m c) := by
  obtain ⟨⟨a0, a1, a2⟩, ⟨b0, b1⟩, ⟨o0, o1, o2⟩⟩ := starts t
  rw [Value.flushed2]
  funext y
  show out0_2 (iblk m c 0 t) (iblk m c 1 t) y = total m c (((cfg0.win 2).blk t).view.emb y)
  unfold out0_2
  rw [View.ld_unit_zero (by funext a; fin_cases a <;> rfl), View.ld_unit_zero (by funext a; fin_cases a <;> rfl),
    Value.canon2_eq]
  show FloatOps.addf (m ((c : Thread nD τ).loc main_arg0) (((cfg0.win 0).blk t).view.emb (Value.ix2_0 y)))
      (m ((c : Thread nD τ).loc main_arg1) (((cfg0.win 1).blk t).view.emb (Value.ix2_1 y)))
    = FloatOps.addf (m ((c : Thread nD τ).loc main_arg0) (((cfg0.win 2).blk t).view.emb y))
      (m ((c : Thread nD τ).loc main_arg1) (ix2 ((((cfg0.win 2).blk t).view.emb y) 1) ((((cfg0.win 2).blk t).view.emb y) 2)))
  congr 2
  · funext a
    apply Fin.ext
    match a with
    | ⟨0, _⟩ =>
      show win0_0.index t 0 * 4 + 1 * (y 0).val = win0_2.index t 0 * 4 + 1 * (y 0).val
      rw [a0, o0]
    | ⟨1, _⟩ =>
      show win0_0.index t 1 * 256 + 1 * (y 1).val = win0_2.index t 1 * 256 + 1 * (y 1).val
      rw [a1, o1]
    | ⟨2, _⟩ =>
      show win0_0.index t 2 * 1024 + 1 * (y 2).val = win0_2.index t 2 * 1024 + 1 * (y 2).val
      rw [a2, o2]
  · funext a
    apply Fin.ext
    match a with
    | ⟨0, _⟩ =>
      show win0_1.index t 0 * 256 + 1 * (y 1).val = win0_2.index t 1 * 256 + 1 * (y 1).val
      rw [b0, o1]
    | ⟨1, _⟩ =>
      show win0_1.index t 1 * 1024 + 1 * (y 2).val = win0_2.index t 2 * 1024 + 1 * (y 2).val
      rw [b1, o2]

/-- Every index of the result is in the block of the point that its position names. -/
theorem cover (i : S4x4096x1024.Idx) :
    ∃ t : Fin cfg0.N, (cfg0.win 2).flush t = true ∧ i ∈ ((cfg0.win 2).blk t).view.set := by
  have h0 : (i 0 : Nat) < 4 := (i 0).isLt
  have h1 : (i 1 : Nat) < 4096 := (i 1).isLt
  have h2 : (i 2 : Nat) < 1024 := (i 2).isLt
  have hN : cfg0.N = 16 := by decide +kernel
  obtain ⟨t, ht⟩ : ∃ t : Fin cfg0.N, t.val = (i 1 : Nat) / 256 := ⟨⟨(i 1 : Nat) / 256, by omega⟩, rfl⟩
  obtain ⟨_, _, ⟨o0, o1, o2⟩⟩ := starts t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 4 ≤ (i 0 : Nat) ∧ (i 0 : Nat) < win0_2.index t 0 * 4 + 4
    rw [o0]; omega
  | ⟨1, _⟩ =>
    show win0_2.index t 1 * 256 ≤ (i 1 : Nat) ∧ (i 1 : Nat) < win0_2.index t 1 * 256 + 256
    rw [o1]; omega
  | ⟨2, _⟩ =>
    show win0_2.index t 2 * 1024 ≤ (i 2 : Nat) ∧ (i 2 : Nat) < win0_2.index t 2 * 1024 + 1024
    rw [o2]; omega

/-- The kernel runs, its result array ends at `total`, and its arguments are unchanged. -/
theorem run : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((dats m 0 c).arrAt_eq_of_cover 2 (total m c) (fun t _ => flushed_total m c t) cover), (h c).2⟩)
    (Value.run_blocks m ρ)

end Cert.KernelIdeal.BlockSum

end
-- ==== Proof.TakeRows.lean ====
/-
  What the reference's result array holds: jnp's take of the rows 0, 1, …, 4095 of the position table is the table
  itself, so the result at (batch b, position l, feature d) is the table at (l, d) plus the input at (b, l, d).
  The take prints as a wrap of negative rows, a range test of every row, a gather, and a select of NaN where the test
  fails; the rows here are an iota, so nothing wraps and every test succeeds.
-/
module

public import proofs.«01_k».proof.Proof.Gen.ReferenceIdeal.Run
public import Idealize.ShloMosaic.Lib.Routing.OpsSearch
public import Idealize.ShloMosaic.Lib.Routing.Ops

@[expose] public section

noncomputable section

open Idealize.ShloMosaic Idealize.ShloMosaic.TcCoe Idealize.SL.Sem Idealize.ShloMosaic.ValueIdx

namespace Cert.ReferenceIdeal.TakeRows

open Cert.ReferenceIdeal Cert.ReferenceIdeal.Gen

/-- The rows asked for, after the wrap of negative ones, as a column of start indices. -/
abbrev rowCol : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0))

/-- The range test: which rows are at least 0 and at most 4095. -/
abbrev inRange : IVec S4096 1 :=
  Host.reduce IntOp.andi
    (andi (cmpi .sge rowCol (broadcastInDim S4096x1 ![] bcast_S_S4096x1 (constantI S_ 32 0#32)))
      (cmpi .sle rowCol (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- A position below 4096 is not negative as a signed word. -/
theorem not_neg (p : Fin 4096) : IntOp.cmpi .slt (BitVec.ofNat 32 p.val) 0#32 ≠ 1#1 := by
  have hp := p.isLt
  rw [Ne, StableHlo.Predicate.slt_iff_toNat (by rw [BitVec.toNat_ofNat]; omega) (by decide)]
  exact Nat.not_lt_zero _

/-- Entry `p` of the column of rows is `p`. -/
theorem rowCol_at (p : Fin 4096) : rowCol (ix2 p (0 : Fin 1)) = BitVec.ofNat 32 p.val := by
  refine (Routing.bcCol _ _ p).trans ?_
  show Scalar.select (IntOp.cmpi .slt (BitVec.ofNat 32 p.val) 0#32) _ (BitVec.ofNat 32 p.val) = _
  exact if_neg (not_neg p)

/-- Every index of the column passes both comparisons. -/
theorem tests_at (i : S4096x1.Idx) :
    andi (cmpi .sge rowCol (broadcastInDim S4096x1 ![] bcast_S_S4096x1 (constantI S_ 32 0#32)))
      (cmpi .sle rowCol (broadcastInDim S4096x1 ![0, 1] bcast_S1x1_S4096x1_0_1
        (broadcastInDim S1x1 ![1] bcast_S1_S1x1_1 (constantI S1 32 4095#32)))) i = 1#1 := by
  obtain ⟨p, rfl⟩ : ∃ p : Fin 4096, i = ix2 p (0 : Fin 1) :=
    ⟨i 0, (eq_ix2 i).trans (congrArg (ix2 (i 0)) (Subsingleton.elim (α := Fin 1) _ _))⟩
  have hp := p.isLt
  show IntOp.andi (IntOp.cmpi .sge (rowCol (ix2 p (0 : Fin 1))) 0#32) (IntOp.cmpi .sle (rowCol (ix2 p (0 : Fin 1))) 4095#32) = 1#1
  have hn : (BitVec.ofNat 32 p.val).toNat = p.val := by rw [BitVec.toNat_ofNat]; omega
  rw [rowCol_at, (StableHlo.Predicate.sge_iff_toNat (by omega) (by decide)).2 (Nat.zero_le _),
    (StableHlo.Predicate.sle_iff_toNat (by omega) (by decide)).2 (by rw [hn]; show p.val ≤ 4095; omega)]
  rfl

/-- The conjunction of set bits from a set bit is set. -/
theorem fold_set {ι : Type} (S : Finset ι) (f : ι → BitVec 1) (hf : ∀ i, f i = 1#1) : S.fold IntOp.andi 1#1 f = 1#1 := by
  classical
  induction S using Finset.cons_induction with
  | empty => rfl
  | cons a S ha ih => rw [Finset.fold_cons, ih, hf]; rfl

/-- Every row is in range. -/
theorem inRange_at (j : S4096.Idx) : inRange j = 1#1 := by
  unfold inRange
  rw [Host.reduce_eq_fold]
  exact fold_set _ _ tests_at

variable {F : FTy → Type} [FloatOps F]

/-- The take of all rows, in order, is the table. -/
theorem take_at (x : Vec F S4096x1024 .f32) (fill : Vec F S4096x1024 .f32) (p : Fin 4096) (q : Fin 1024) :
    select (broadcastInDim S4096x1024 ![0] bcast_S4096_S4096x1024_0 inRange)
      (Host.gather gather_S4096x1024_S4096x1_S4096x1024_1_0_n_n_0_1_11024 x rowCol) fill (ix2 p q) = x (ix2 p q) := by
  show Scalar.select (inRange _) (Host.gather gather_S4096x1024_S4096x1_S4096x1024_1_0_n_n_0_1_11024 x rowCol (ix2 p q)) (fill (ix2 p q)) = _
  rw [inRange_at]
  exact (if_pos rfl).trans (Routing.gather_row _ rfl rfl rfl rfl rfl x rowCol p q p (rowCol_at p) (by decide))

/-- The table plus the input: the position embedding of each position, added to every batch entry. -/
def posPlus (x : Vec F S4x4096x1024 .f32) (p : Vec F S4096x1024 .f32) : Vec F S4x4096x1024 .f32 :=
  fun i => FloatOps.addf (p (ix2 (i 1) (i 2))) (x i)

/-- The reference runs, its result is `posPlus` of its arguments, and its arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = posPlus (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨b, p, q, rfl⟩ : ∃ (b : Fin 4) (p : Fin 4096) (q : Fin 1024), i = ix3 b p q := ⟨i 0, i 1, i 2, eq_ix3 i⟩
  refine congrArg (fun e => FloatOps.addf e (m ((c.tc : Thread nD τ).loc main_arg0) (ix3 b p q))) ?_
  exact (Routing.bcStack _ _ _ b p q).trans (take_at _ _ p q)

end Cert.ReferenceIdeal.TakeRows

end
-- ==== Proof.Words.lean ====
/-
  The kernel and the reference as words. The ideal programs are the programs' own text, so what `BlockSum` and
  `TakeRows` prove of them, at any instance of the floats, holds of the programs themselves. At the bit-exact instance
  the f32 sum takes its operands in either order, so both leave the same words, whatever the arguments hold.
-/
module

public import proofs.«01_k».proof.Proof.Gen.Kernel
public import proofs.«01_k».proof.Proof.Gen.Reference
public import proofs.«01_k».proof.Proof.BlockSum
public import proofs.«01_k».proof.Proof.TakeRows
public import proofs.«01_k».proof.Kernel
public import proofs.«01_k».proof.Reference
public import Idealize.ShloMosaic.PureOps.BitExact.Laws

@[expose] public section

noncomputable section

open Idealize.ShloMosaic Idealize.ShloMosaic.TcCoe Idealize.SL.Sem

namespace Cert.Words

section Kernel

open Cert.Kernel Cert.Kernel.Gen

variable {F : FTy → Type} [FloatOps F]

/-- The kernel's body table is the ideal kernel's. -/
theorem bodies_eq : Cert.Kernel.defs₀ (F := F) = Cert.KernelIdeal.defs₀ (F := F) := by
  refine congrArg Defs.onTc (funext fun l => funext fun a => ?_)
  match l, a with
  | ⟨0, _⟩, (t, s) => rfl

/-- And so is its table with the pipeline in it. -/
theorem tables_eq : Cert.Kernel.defs (F := F) = Cert.KernelIdeal.defs (F := F) :=
  congrArg (Pipeline.defs Cert.Kernel.pcfgs) bodies_eq

/-- The kernel runs, its result is the input plus the table, and its arguments are unchanged. -/
theorem kernel_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0)
        = Cert.KernelIdeal.BlockSum.withPos (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  rw [tables_eq]
  exact Cert.KernelIdeal.BlockSum.run m ρ

end Kernel

section Reference

open Cert.Reference Cert.Reference.Gen

variable {F : FTy → Type} [FloatOps F]

/-- The reference runs, its result is the table plus the input, and its arguments are unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4)
        = Cert.ReferenceIdeal.TakeRows.posPlus (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Cert.ReferenceIdeal.TakeRows.run m ρ

end Reference

/-- As words, table + input and input + table are one array. -/
theorem words_agree (x : Vec Bits Cert.KernelIdeal.S4x4096x1024 .f32) (p : Vec Bits Cert.KernelIdeal.S4096x1024 .f32) :
    Cert.ReferenceIdeal.TakeRows.posPlus x p = Cert.KernelIdeal.BlockSum.withPos x p :=
  funext fun _ => Bits.addf32_comm _ _

end Cert.Words

end
-- ==== Proof.lean ====
/-
  The certificate of the position-embedding kernel: the frames of the programs, and the equation of the kernel and the
  reference, over the extended reals and as words. `BlockSum` says what the kernel's result is, `TakeRows` what the
  reference's is, `Words` reads both at the bit-exact instance; the two differ by the order of one addition.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.BlockSum
public import proofs.«01_k».proof.Proof.TakeRows
public import proofs.«01_k».proof.Proof.Words
public import Idealize.ShloMosaic.Lib.ValueIdx
public import Idealize.ShloMosaic.Lib.Quiescent

@[expose] public section

noncomputable section

namespace Cert.Proof

open Idealize.ShloMosaic Idealize.SL.Sem

/-- The reference, as printed, runs to its end, leaves its arguments as they were, and declares no semaphore. -/
theorem reference_words_frame : Cert.quiescent_Reference (hReference := Cert.Reference.Gen.facts) := fun m ρ _ =>
  (θ_run Cert.Reference.defs _ _).mono
    (fun r h => ⟨fun c => (h c).2, Idealize.ShloMosaic.sem_eq_zero_of_no_sems (by decide) r.2⟩)
    (Cert.Words.reference_run (F := Bits) m ρ)

/-- The ideal reference runs to its end, leaves its arguments as they were, and declares no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.TakeRows.run (F := Ideal) m ρ)

/-- Over the extended reals input + table and table + input are one array. -/
theorem sums_agree (x : Vec Ideal Cert.KernelIdeal.S4x4096x1024 .f32) (p : Vec Ideal Cert.KernelIdeal.S4096x1024 .f32) :
    Cert.ReferenceIdeal.TakeRows.posPlus x p = Cert.KernelIdeal.BlockSum.withPos x p := by
  funext i
  show FloatOps.addf (F := Ideal) _ _ = FloatOps.addf (F := Ideal) _ _
  simp only [Ideal.addf_def]
  exact add_comm _ _

/-- The kernel and the reference, from equal arguments, end with equal results. -/
theorem same_function : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.BlockSum.total m c, Cert.KernelIdeal.BlockSum.run (F := Ideal) m ρ, ?_⟩
  refine (θ_run Cert.ReferenceIdeal.defs _ _).mono (fun _ h c => ⟨(h c).1.trans ?_, (h c).2⟩)
    (Cert.ReferenceIdeal.TakeRows.run (F := Ideal) m' ρ')
  rw [(hagree c).1, (hagree c).2]
  exact sums_agree _ _

/-- The kernel and the reference, from equal arguments, end with the same words. -/
theorem same_words : Cert.bitexact_Kernel_Reference (hKernel := Cert.Kernel.Gen.facts)
    (hReference := Cert.Reference.Gen.facts) := by
  intro m ρ m' ρ' _ hagree
  refine ⟨_, Cert.Words.kernel_run (F := Bits) m ρ, ?_⟩
  refine (θ_run Cert.Reference.defs _ _).mono (fun _ h c => ⟨(h c).1.trans ?_, (h c).2⟩)
    (Cert.Words.reference_run (F := Bits) m' ρ')
  rw [(hagree c).1, (hagree c).2]
  exact Cert.Words.words_agree _ _

/-- All the claims. -/
theorem claim : Cert.Claim :=
  ⟨Cert.Kernel.Gen.facts, Cert.Reference.Gen.facts, Cert.KernelIdeal.Gen.facts, Cert.ReferenceIdeal.Gen.facts,
    fun m ρ _ => Cert.Kernel.Gen.frame m ρ, reference_words_frame, fun m ρ _ => Cert.KernelIdeal.Gen.frame m ρ,
    reference_frame, trivial, same_function, same_words⟩

end Cert.Proof

end
